-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x128 : Shape := ⟨2, ![1024, 128]⟩
abbrev S100000x128 : Shape := ⟨2, ![100000, 128]⟩
abbrev S1024x1 : Shape := ⟨2, ![1024, 1]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x128 .f32) (main_arg1 : FVec F S100000x128 .f32) (main_arg2 : IVec S1024x1 32) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 100000#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Kernel.lean ====
abbrev S1024x128 : Shape := ⟨2, ![1024, 128]⟩
abbrev S100000x128 : Shape := ⟨2, ![100000, 128]⟩
abbrev S1024x1 : Shape := ⟨2, ![1024, 1]⟩
abbrev S_ : Shape := ⟨0, ![]⟩
abbrev S100352x128 : Shape := ⟨2, ![100352, 128]⟩
abbrev S1x1 : Shape := ⟨2, ![1, 1]⟩
abbrev S2048x128 : Shape := ⟨2, ![2048, 128]⟩
abbrev S1024x2048 : Shape := ⟨2, ![1024, 2048]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 8
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1024x1, .i32⟩
  | .hbm, ⟨3, _⟩ => ⟨S_, .i32⟩
  | .hbm, ⟨4, _⟩ => ⟨S_, .f32⟩
  | .hbm, ⟨5, _⟩ => ⟨S100352x128, .f32⟩
  | .hbm, ⟨6, _⟩ => ⟨S1x1, .f32⟩
  | .hbm, ⟨7, _⟩ => ⟨S_, .f32⟩
  | .local _ .vmem, ⟨0, _⟩ => ⟨S1024x128, .f32⟩
  | .local _ .vmem, ⟨1, _⟩ => ⟨S2048x128, .f32⟩
  | .local _ .vmem, ⟨2, _⟩ => ⟨S2048x128, .f32⟩
  | .local _ .vmem, ⟨3, _⟩ => ⟨S1024x1, .i32⟩
  | .local _ .vmem, ⟨4, _⟩ => ⟨S1x1, .f32⟩
  | .local _ .vmem, ⟨5, _⟩ => ⟨S1024x1, .f32⟩
  | .local _ .vmem, ⟨6, _⟩ => ⟨S1024x1, .i32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨2, ![2, 49], ![false, false]⟩

def k0_cond5 (i : grid0.Coords) : BitVec 1 :=
  let arg0 : BitVec 32 := BitVec.ofNat 32 (i 0).val
  let c1_i32_13 : BitVec 32 := 1#32
  let v25 : BitVec 1 := Scalar.cmpi .eq arg0 c1_i32_13
  let arg1 : BitVec 32 := BitVec.ofNat 32 (i 1).val
  let c48_i32 : BitVec 32 := 48#32
  let v26 : BitVec 1 := Scalar.cmpi .eq arg1 c48_i32
  let v27 : BitVec 1 := Scalar.andi v25 v26
  let v28 : BitVec 32 := Scalar.extui v27
  let c0_i32_14 : BitVec 32 := 0#32
  let v29 : BitVec 1 := Scalar.cmpi .ne v28 c0_i32_14
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S1024x128 : Shape := ⟨2, ![1024, 128]⟩
abbrev S100000x128 : Shape := ⟨2, ![100000, 128]⟩
abbrev S1024x1 : Shape := ⟨2, ![1024, 1]⟩
abbrev S128x100000 : Shape := ⟨2, ![128, 100000]⟩
abbrev S1024x100000 : Shape := ⟨2, ![1024, 100000]⟩
abbrev S_ : Shape := ⟨0, ![]⟩
abbrev S1024x1x1 : Shape := ⟨3, ![1024, 1, 1]⟩
abbrev S1 : Shape := ⟨1, ![1]⟩
abbrev S1x1x1 : Shape := ⟨3, ![1, 1, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1024x1, .i32⟩
  | .hbm, ⟨3, _⟩ => ⟨S128x100000, .f32⟩
  | .hbm, ⟨4, _⟩ => ⟨S1024x100000, .f32⟩
  | .hbm, ⟨5, _⟩ => ⟨S1024x100000, .f32⟩
  | .hbm, ⟨6, _⟩ => ⟨S1024x100000, .i32⟩
  | .hbm, ⟨7, _⟩ => ⟨S1024x100000, .f32⟩
  | .hbm, ⟨8, _⟩ => ⟨S1024x100000, .i32⟩
  | .hbm, ⟨9, _⟩ => ⟨S1024x100000, .i32⟩
  | .hbm, ⟨10, _⟩ => ⟨S1024x100000, .i32⟩
  | .hbm, ⟨11, _⟩ => ⟨S1024x100000, .i32⟩
  | .hbm, ⟨12, _⟩ => ⟨S_, .i32⟩
  | .hbm, ⟨13, _⟩ => ⟨S1024x1, .i32⟩
  | .hbm, ⟨14, _⟩ => ⟨S1024x1, .i1⟩
  | .hbm, ⟨15, _⟩ => ⟨S_, .i32⟩
  | .hbm, ⟨16, _⟩ => ⟨S1024x1, .i32⟩
  | .hbm, ⟨17, _⟩ => ⟨S1024x1, .i32⟩
  | .hbm, ⟨18, _⟩ => ⟨S1024x1, .i32⟩
  | .hbm, ⟨19, _⟩ => ⟨S1024x1x1, .i32⟩
  | .hbm, ⟨20, _⟩ => ⟨S1, .i32⟩
  | .hbm, ⟨21, _⟩ => ⟨S_, .i32⟩
  | .hbm, ⟨22, _⟩ => ⟨S1024x1x1, .i32⟩
  | .hbm, ⟨23, _⟩ => ⟨S1024x1x1, .i1⟩
  | .hbm, ⟨24, _⟩ => ⟨S1x1x1, .i32⟩
  | .hbm, ⟨25, _⟩ => ⟨S1024x1x1, .i32⟩
  | .hbm, ⟨26, _⟩ => ⟨S1024x1x1, .i1⟩
  | .hbm, ⟨27, _⟩ => ⟨S1024x1x1, .i1⟩
  | .hbm, ⟨28, _⟩ => ⟨S_, .i1⟩
  | .hbm, ⟨29, _⟩ => ⟨S1024x1, .i1⟩
  | .hbm, ⟨30, _⟩ => ⟨S1024x1, .i32⟩
  | .hbm, ⟨31, _⟩ => ⟨S_, .i32⟩
  | .hbm, ⟨32, _⟩ => ⟨S1024x1, .i32⟩
  | .hbm, ⟨33, _⟩ => ⟨S1024x1, .i32⟩
  | .hbm, ⟨34, _⟩ => ⟨S_, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1_0 : Ref sig .tc := ⟨.hbm, 7, rfl⟩
abbrev main_v3 : Ref sig .tc := ⟨.hbm, 8, rfl⟩
abbrev main_call1_v0 : Ref sig .tc := ⟨.hbm, 9, rfl⟩
abbrev main_call1_v1_0 : Ref sig .tc := ⟨.hbm, 10, rfl⟩
abbrev main_v4 : Ref sig .tc := ⟨.hbm, 11, rfl⟩
abbrev main_call2_c : Ref sig .tc := ⟨.hbm, 12, rfl⟩
abbrev main_call2_v0 : Ref sig .tc := ⟨.hbm, 13, rfl⟩
abbrev main_call2_v1 : Ref sig .tc := ⟨.hbm, 14, rfl⟩
abbrev main_call2_c_0 : Ref sig .tc := ⟨.hbm, 15, rfl⟩
abbrev main_call2_v2 : Ref sig .tc := ⟨.hbm, 16, rfl⟩
abbrev main_call2_v3 : Ref sig .tc := ⟨.hbm, 17, rfl⟩
abbrev main_call2_v4 : Ref sig .tc := ⟨.hbm, 18, rfl⟩
abbrev main_call2_v5 : Ref sig .tc := ⟨.hbm, 19, rfl⟩
abbrev main_call2_c_1 : Ref sig .tc := ⟨.hbm, 20, rfl⟩
abbrev main_call2_c_2 : Ref sig .tc := ⟨.hbm, 21, rfl⟩
abbrev main_call2_v6 : Ref sig .tc := ⟨.hbm, 22, rfl⟩
abbrev main_call2_v7 : Ref sig .tc := ⟨.hbm, 23, rfl⟩
abbrev main_call2_v8 : Ref sig .tc := ⟨.hbm, 24, rfl⟩
abbrev main_call2_v9 : Ref sig .tc := ⟨.hbm, 25, rfl⟩
abbrev main_call2_v10 : Ref sig .tc := ⟨.hbm, 26, rfl⟩
abbrev main_call2_v11 : Ref sig .tc := ⟨.hbm, 27, rfl⟩
abbrev main_call2_c_3 : Ref sig .tc := ⟨.hbm, 28, rfl⟩
abbrev main_call2_v12 : Ref sig .tc := ⟨.hbm, 29, rfl⟩
abbrev main_call2_v13 : Ref sig .tc := ⟨.hbm, 30, rfl⟩
abbrev main_call2_c_4 : Ref sig .tc := ⟨.hbm, 31, rfl⟩
abbrev main_call2_v14 : Ref sig .tc := ⟨.hbm, 32, rfl⟩
abbrev main_v5 : Ref sig .tc := ⟨.hbm, 33, rfl⟩
abbrev main_c : Ref sig .tc := ⟨.hbm, 34, rfl⟩
abbrev main_v6 : Ref sig .tc := ⟨.hbm, 35, rfl⟩
abbrev main_c_0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_cst : Ref sig .tc := ⟨.hbm, 40, rfl⟩
abbrev main_v10 : Ref sig .tc := ⟨.hbm, 41, rfl⟩
abbrev main_v11 : Ref sig .tc := ⟨.hbm, 42, rfl⟩
abbrev main_cst_1 : Ref sig .tc := ⟨.hbm, 43, rfl⟩
abbrev main_v12 : Ref sig .tc := ⟨.hbm, 44, rfl⟩
abbrev main_cst_2 : Ref sig .tc := ⟨.hbm, 45, rfl⟩
abbrev main_v13 : Ref sig .tc := ⟨.hbm, 46, rfl⟩

abbrev nD : Nat := 1
abbrev τ : Topo := Topo.v7x

variable {F : FTy → Type} [FloatOps F]
-- ==== Proof.KernelIdealBody.lean ====
/- The body of the kernel's pallas_call, point by point. The grid walks the score tiles twice: the first pass adds up, per
   query, the score of its ground-truth column in one scratch; the second counts, per query, the columns ranked before it
   in another; the last point turns the counts into the mean reciprocal rank. This file states which of the body's
   branches are taken at which point, and one triple of the body per kind of point. -/
module

public import proofs.«01_k».proof.Proof.Gen.KernelIdeal.Frame
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Tactic
public import Idealize.ShloMosaic.Lib.WordCmp
public import Idealize.ShloMosaic.Lib.VecWindow
public import Idealize.ShloMosaic.Lib.Ring

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branches -/

/-- The branch that zeroes the ground-truth scores: first pass, first tile. -/
abbrev zeroesScore (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The branch that adds a tile's share of the ground-truth scores: the first pass. -/
abbrev addsScore (i : grid0.Coords) : Prop :=
  Scalar.cmpi .ne (Scalar.extui (Scalar.cmpi .eq (BitVec.ofNat 32 (i 0).val) 0#32)) 0#32 = 1#1
/-- The branch that zeroes the counts: second pass, first tile. -/
abbrev zeroesCount (i : grid0.Coords) : Prop :=
  Scalar.cmpi .ne (Scalar.extui (Scalar.andi (Scalar.cmpi .eq (BitVec.ofNat 32 (i 0).val) 1#32) (Scalar.cmpi .eq (BitVec.ofNat 32 (i 1).val) 0#32))) 0#32 = 1#1
/-- The branch that adds a tile's share of the counts: the second pass. -/
abbrev addsCount (i : grid0.Coords) : Prop :=
  Scalar.cmpi .ne (Scalar.extui (Scalar.cmpi .eq (BitVec.ofNat 32 (i 0).val) 1#32)) 0#32 = 1#1
/-- The branch that writes the result: second pass, last tile. -/
abbrev writesResult (i : grid0.Coords) : Prop := k0_cond5 i = 1#1

/-- Point `t` is tile `t % 49` of pass `t / 49`. -/
theorem coords_eq (t : Fin grid0.N) : t.val < 98 ∧ (grid0.coords t 0).val = t.val / 49 ∧ (grid0.coords t 1).val = t.val % 49 := by
  have ht : t.val < 98 := Nat.lt_of_lt_of_eq t.isLt N_0
  have e0 : (grid0.coords t 0).val = t.val / 49 % 2 := Pipeline.Grid.coords_val t 0 (by decide) rfl
  have e1 : (grid0.coords t 1).val = t.val / 1 % 49 := Pipeline.Grid.coords_val t 1 (by decide) rfl
  exact ⟨ht, by omega, by omega⟩

theorem zeroesScore_iff (t : Fin grid0.N) : zeroesScore (grid0.coords t) ↔ t.val = 0 := by
  obtain ⟨ht, e0, e1⟩ := coords_eq t
  simp only [zeroesScore, e0, e1]
  word_cmp
theorem addsScore_iff (t : Fin grid0.N) : addsScore (grid0.coords t) ↔ t.val < 49 := by
  obtain ⟨ht, e0, e1⟩ := coords_eq t
  simp only [addsScore, e0]
  word_cmp
theorem zeroesCount_iff (t : Fin grid0.N) : zeroesCount (grid0.coords t) ↔ t.val = 49 := by
  obtain ⟨ht, e0, e1⟩ := coords_eq t
  simp only [zeroesCount, e0, e1]
  word_cmp
theorem addsCount_iff (t : Fin grid0.N) : addsCount (grid0.coords t) ↔ 49 ≤ t.val := by
  obtain ⟨ht, e0, e1⟩ := coords_eq t
  simp only [addsCount, e0]
  word_cmp
theorem writesResult_iff (t : Fin grid0.N) : writesResult (grid0.coords t) ↔ t.val = 97 := by
  obtain ⟨ht, e0, e1⟩ := coords_eq t
  simp only [writesResult, k0_cond5, e0, e1]
  word_cmp

/-! ## One triple per kind of point

The inputs' buffers hold the blocks `x0` (queries), `x1` (a tile of keys), `x2` (ground-truth columns); they are left as
they were. -/

section Triples

variable (c : Dev nD) (i : grid0.Coords)
  (arg2 : Memref sig .tc .vmem S1024x128 .f32) (harg2 : arg2.IsWhole)
  (arg3 : Memref sig .tc .vmem S2048x128 .f32) (harg3 : arg3.IsWhole)
  (arg4 : Memref sig .tc .vmem S1024x1 .i32) (harg4 : arg4.IsWhole)
  (arg5 : Memref sig .tc .vmem S1x1 .f32) (harg5 : arg5.IsWhole)
  (arg6 : Memref sig .tc .vmem S1024x1 .f32) (harg6 : arg6.IsWhole)
  (arg7 : Memref sig .tc .vmem S1024x1 .i32) (harg7 : arg7.IsWhole)
  (x0 : Vec F S1024x128 .f32) (x1 : Vec F S2048x128 .f32) (x2 : Vec F S1024x1 .i32)
  (o : Vec F S1x1 .f32) (s : Vec F S1024x1 .f32) (n : Vec F S1024x1 .i32)

/-- The body's six buffers at given contents: the three inputs', the result's, the scores', the counts'. -/
def Held (x0 : Vec F S1024x128 .f32) (x1 : Vec F S2048x128 .f32) (x2 : Vec F S1024x1 .i32) (o : Vec F S1x1 .f32)
    (s : Vec F S1024x1 .f32) (n : Vec F S1024x1 .i32) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare o ∗ owns (c : Thread nD τ) arg6 fullShare s ∗ owns (c : Thread nD τ) arg7 fullShare n)

/-- The first point: the scores start from zero. -/
theorem body_first (E : Set ℕ) (K : PUnit → sProp 𝕄) (h1 : zeroesScore i) (h2 : addsScore i) (h3 : ¬zeroesCount i) (h4 : ¬addsCount i) (h5 : ¬writesResult i) :
    iprop(Held c arg2 arg3 arg4 arg5 arg6 arg7 x0 x1 x2 o s n
        ∗ (Held c arg2 arg3 arg4 arg5 arg6 arg7 x0 x1 x2 o (k0_pay4 i x0 x1 x2 k0_pay3) n -∗ K ⟨⟩))
      ⊢ wp frame (wpE (defs₀ (F := F)) Variants.none c none) E (cc0__mrr_body i arg2 harg2 arg3 harg3 arg4 harg4 arg5 harg5 arg6 harg6 arg7 harg7) K := by
  simp only [cc0__mrr_body_eq_skeleton]; unfold cc0__mrr_body_skel
  unfold Held owns
  iintro ⟨⟨⟨%f0, %hf0, H0⟩, ⟨%f1, %hf1, H1⟩, ⟨%f2, %hf2, H2⟩, ⟨%f3, %hf3, H3⟩, ⟨%fs0, %hfs0, HS0⟩, ⟨%fs1, %hfs1, HS1⟩⟩, Hk⟩
  sl_exec (disch := first | sl_exact h1 | sl_exact h2 | sl_exact h3 | sl_exact h4 | sl_exact h5)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [HS0]
  · iexists _; isplitr; swap; · iexact HS0
    ipureintro; exact (View.read_writes_full (s := S1024x1) ..).trans
      (congr (congr (congr (congrArg (k0_pay4 i) ((View.readAt_full (s := S1024x128) ..).trans hf0)) ((View.readAt_full (s := S2048x128) ..).trans hf1)) ((View.readAt_full (s := S1024x1) ..).trans hf2)) (View.readCov_full (s := S1024x1) ..))
  · iexists _; isplitr; swap; · iexact HS1
    ipureintro; exact hfs1

/-- A later point of the first pass: the tile's share is added to the scores. -/
theorem body_score (E : Set ℕ) (K : PUnit → sProp 𝕄) (h1 : ¬zeroesScore i) (h2 : addsScore i) (h3 : ¬zeroesCount i) (h4 : ¬addsCount i) (h5 : ¬writesResult i) :
    iprop(Held c arg2 arg3 arg4 arg5 arg6 arg7 x0 x1 x2 o s n
        ∗ (Held c arg2 arg3 arg4 arg5 arg6 arg7 x0 x1 x2 o (k0_pay4 i x0 x1 x2 s) n -∗ K ⟨⟩))
      ⊢ wp frame (wpE (defs₀ (F := F)) Variants.none c none) E (cc0__mrr_body i arg2 harg2 arg3 harg3 arg4 harg4 arg5 harg5 arg6 harg6 arg7 harg7) K := by
  simp only [cc0__mrr_body_eq_skeleton]; unfold cc0__mrr_body_skel
  unfold Held owns
  iintro ⟨⟨⟨%f0, %hf0, H0⟩, ⟨%f1, %hf1, H1⟩, ⟨%f2, %hf2, H2⟩, ⟨%f3, %hf3, H3⟩, ⟨%fs0, %hfs0, HS0⟩, ⟨%fs1, %hfs1, HS1⟩⟩, Hk⟩
  sl_exec (disch := first | sl_exact h1 | sl_exact h2 | sl_exact h3 | sl_exact h4 | sl_exact h5)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [HS0]
  · iexists _; isplitr; swap; · iexact HS0
    ipureintro; exact (View.read_writes_full (s := S1024x1) ..).trans
      (congr (congr (congr (congrArg (k0_pay4 i) ((View.readAt_full (s := S1024x128) ..).trans hf0)) ((View.readAt_full (s := S2048x128) ..).trans hf1)) ((View.readAt_full (s := S1024x1) ..).trans hf2)) ((View.readAt_full (s := S1024x1) ..).trans hfs0))
  · iexists _; isplitr; swap; · iexact HS1
    ipureintro; exact hfs1

/-- The first point of the second pass: the counts start from zero. -/
theorem body_turn (E : Set ℕ) (K : PUnit → sProp 𝕄) (h1 : ¬zeroesScore i) (h2 : ¬addsScore i) (h3 : zeroesCount i) (h4 : addsCount i) (h5 : ¬writesResult i) :
    iprop(Held c arg2 arg3 arg4 arg5 arg6 arg7 x0 x1 x2 o s n
        ∗ (Held c arg2 arg3 arg4 arg5 arg6 arg7 x0 x1 x2 o s (k0_pay6 i x0 x1 x2 s k0_pay5) -∗ K ⟨⟩))
      ⊢ wp frame (wpE (defs₀ (F := F)) Variants.none c none) E (cc0__mrr_body i arg2 harg2 arg3 harg3 arg4 harg4 arg5 harg5 arg6 harg6 arg7 harg7) K := by
  simp only [cc0__mrr_body_eq_skeleton]; unfold cc0__mrr_body_skel
  unfold Held owns
  iintro ⟨⟨⟨%f0, %hf0, H0⟩, ⟨%f1, %hf1, H1⟩, ⟨%f2, %hf2, H2⟩, ⟨%f3, %hf3, H3⟩, ⟨%fs0, %hfs0, HS0⟩, ⟨%fs1, %hfs1, HS1⟩⟩, Hk⟩
  sl_exec (disch := first | sl_exact h1 | sl_exact h2 | sl_exact h3 | sl_exact h4 | sl_exact h5)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [HS0]
  · iexists _; isplitr; swap; · iexact HS0
    ipureintro; exact hfs0
  · iexists _; isplitr; swap; · iexact HS1
    ipureintro; exact (View.read_writes_full (s := S1024x1) ..).trans
      (congr (congr (congr (congr (congrArg (k0_pay6 i) ((View.readAt_full (s := S1024x128) ..).trans hf0)) ((View.readAt_full (s := S2048x128) ..).trans hf1)) ((View.readAt_full (s := S1024x1) ..).trans hf2)) ((View.readAt_full (s := S1024x1) ..).trans hfs0)) (View.readCov_full (s := S1024x1) ..))

/-- A later point of the second pass: the tile's share is added to the counts. -/
theorem body_count (E : Set ℕ) (K : PUnit → sProp 𝕄) (h1 : ¬zeroesScore i) (h2 : ¬addsScore i) (h3 : ¬zeroesCount i) (h4 : addsCount i) (h5 : ¬writesResult i) :
    iprop(Held c arg2 arg3 arg4 arg5 arg6 arg7 x0 x1 x2 o s n
        ∗ (Held c arg2 arg3 arg4 arg5 arg6 arg7 x0 x1 x2 o s (k0_pay6 i x0 x1 x2 s n) -∗ K ⟨⟩))
      ⊢ wp frame (wpE (defs₀ (F := F)) Variants.none c none) E (cc0__mrr_body i arg2 harg2 arg3 harg3 arg4 harg4 arg5 harg5 arg6 harg6 arg7 harg7) K := by
  simp only [cc0__mrr_body_eq_skeleton]; unfold cc0__mrr_body_skel
  unfold Held owns
  iintro ⟨⟨⟨%f0, %hf0, H0⟩, ⟨%f1, %hf1, H1⟩, ⟨%f2, %hf2, H2⟩, ⟨%f3, %hf3, H3⟩, ⟨%fs0, %hfs0, HS0⟩, ⟨%fs1, %hfs1, HS1⟩⟩, Hk⟩
  sl_exec (disch := first | sl_exact h1 | sl_exact h2 | sl_exact h3 | sl_exact h4 | sl_exact h5)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [HS0]
  · iexists _; isplitr; swap; · iexact HS0
    ipureintro; exact hfs0
  · iexists _; isplitr; swap; · iexact HS1
    ipureintro; exact (View.read_writes_full (s := S1024x1) ..).trans
      (congr (congr (congr (congr (congrArg (k0_pay6 i) ((View.readAt_full (s := S1024x128) ..).trans hf0)) ((View.readAt_full (s := S2048x128) ..).trans hf1)) ((View.readAt_full (s := S1024x1) ..).trans hf2)) ((View.readAt_full (s := S1024x1) ..).trans hfs0)) ((View.readAt_full (s := S1024x1) ..).trans hfs1))

/-- The last point: the tile's share is added to the counts, and they are turned into the result. -/
theorem body_last (E : Set ℕ) (K : PUnit → sProp 𝕄) (h1 : ¬zeroesScore i) (h2 : ¬addsScore i) (h3 : ¬zeroesCount i) (h4 : addsCount i) (h5 : writesResult i) :
    iprop(Held c arg2 arg3 arg4 arg5 arg6 arg7 x0 x1 x2 o s n
        ∗ (Held c arg2 arg3 arg4 arg5 arg6 arg7 x0 x1 x2 (k0_pay7 (k0_pay6 i x0 x1 x2 s n)) s (k0_pay6 i x0 x1 x2 s n) -∗ K ⟨⟩))
      ⊢ wp frame (wpE (defs₀ (F := F)) Variants.none c none) E (cc0__mrr_body i arg2 harg2 arg3 harg3 arg4 harg4 arg5 harg5 arg6 harg6 arg7 harg7) K := by
  simp only [cc0__mrr_body_eq_skeleton]; unfold cc0__mrr_body_skel
  unfold Held owns
  iintro ⟨⟨⟨%f0, %hf0, H0⟩, ⟨%f1, %hf1, H1⟩, ⟨%f2, %hf2, H2⟩, ⟨%f3, %hf3, H3⟩, ⟨%fs0, %hfs0, HS0⟩, ⟨%fs1, %hfs1, HS1⟩⟩, Hk⟩
  sl_exec (disch := first | sl_exact h1 | sl_exact h2 | sl_exact h3 | sl_exact h4 | sl_exact h5)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact (View.read_writes_full (s := S1x1) ..).trans
      (congrArg k0_pay7 ((View.readCov_full (s := S1024x1) ..).trans
      (congr (congr (congr (congr (congrArg (k0_pay6 i) ((View.readAt_full (s := S1024x128) ..).trans hf0)) ((View.readAt_full (s := S2048x128) ..).trans hf1)) ((View.readAt_full (s := S1024x1) ..).trans hf2)) ((View.readAt_full (s := S1024x1) ..).trans hfs0)) ((View.readAt_full (s := S1024x1) ..).trans hfs1))))
  isplitl [HS0]
  · iexists _; isplitr; swap; · iexact HS0
    ipureintro; exact hfs0
  · iexists _; isplitr; swap; · iexact HS1
    ipureintro; exact (View.read_writes_full (s := S1024x1) ..).trans
      (congr (congr (congr (congr (congrArg (k0_pay6 i) ((View.readAt_full (s := S1024x128) ..).trans hf0)) ((View.readAt_full (s := S2048x128) ..).trans hf1)) ((View.readAt_full (s := S1024x1) ..).trans hf2)) ((View.readAt_full (s := S1024x1) ..).trans hfs0)) ((View.readAt_full (s := S1024x1) ..).trans hfs1))

end Triples

end Cert.KernelIdeal.Body

end
-- ==== Proof.KernelIdealFrame.lean ====
/- The launch of the kernel's pallas_call: what the two scratches hold before each point of the grid, the body at any
   point, and the run of the whole program from any memory. -/
module

public import proofs.«01_k».proof.Proof.KernelIdealBody
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratches hold -/

/-- Point `n` of the grid. -/
abbrev pt (n : ℕ) (h : n < 98) : Fin grid0.N := ⟨n, by rw [N_0]; exact h⟩

/-- The ground-truth scores before point `n`: a tile's share added at each point of the first pass. -/
def scoreAt (c : Dev nD) : ℕ → Vec F S1024x1 .f32
  | 0 => k0_pay3
  | n + 1 => if h : n < 49 then
      k0_pay4 (grid0.coords (pt n (by omega))) (iblk m c 0 (pt n (by omega))) (iblk m c 1 (pt n (by omega))) (iblk m c 2 (pt n (by omega))) (scoreAt c n)
    else scoreAt c n

/-- The counts before point `n`: a tile's share added at each point of the second pass. -/
def countAt (c : Dev nD) : ℕ → Vec F S1024x1 .i32
  | 0 => k0_pay5
  | n + 1 => if h : 49 ≤ n ∧ n < 98 then
      k0_pay6 (grid0.coords (pt n h.2)) (iblk m c 0 (pt n h.2)) (iblk m c 1 (pt n h.2)) (iblk m c 2 (pt n h.2)) (scoreAt m c n) (countAt c n)
    else countAt c n

/-- The result the last point writes. -/
def resultAt (c : Dev nD) : Vec F S1x1 .f32 := k0_pay7 (countAt m c 98)

theorem scoreAt_succ (c : Dev nD) (t : Fin grid0.N) (h : t.val < 49) :
    scoreAt m c (t.val + 1) = k0_pay4 (grid0.coords t) (iblk m c 0 t) (iblk m c 1 t) (iblk m c 2 t) (scoreAt m c t.val) := by
  rw [scoreAt, dif_pos h]
theorem scoreAt_stay (c : Dev nD) (n : ℕ) (h : 49 ≤ n) : scoreAt m c (n + 1) = scoreAt m c n := by
  rw [scoreAt, dif_neg (by omega)]
theorem countAt_succ (c : Dev nD) (t : Fin grid0.N) (h : 49 ≤ t.val) :
    countAt m c (t.val + 1) = k0_pay6 (grid0.coords t) (iblk m c 0 t) (iblk m c 1 t) (iblk m c 2 t) (scoreAt m c t.val) (countAt m c t.val) := by
  rw [countAt, dif_pos ⟨h, Nat.lt_of_lt_of_eq t.isLt N_0⟩]
theorem countAt_stay (c : Dev nD) (n : ℕ) (h : n < 49) : countAt m c (n + 1) = countAt m c n := by
  rw [countAt, dif_neg (by omega)]
theorem countAt_turn (c : Dev nD) : countAt m c 49 = k0_pay5 := by
  have h : ∀ n, n ≤ 49 → countAt m c n = k0_pay5 := by
    intro n; induction n with
    | zero => intro _; rfl
    | succ n ih => intro hn; rw [countAt_stay m c n (by omega), ih (by omega)]
  exact h 49 (le_refl _)

/-! ## The body at any point -/

/-- The staging buffers at point `t`, and the two scratches. -/
abbrev mQ (t : Fin cfg0.N) : Memref sig .tc .vmem S1024x128 .f32 := win0_0.stage (cfg0.slots t 0)
abbrev mKeys (t : Fin cfg0.N) : Memref sig .tc .vmem S2048x128 .f32 := win0_1.stage (cfg0.slots t 1)
abbrev mGt (t : Fin cfg0.N) : Memref sig .tc .vmem S1024x1 .i32 := win0_2.stage (cfg0.slots t 2)
abbrev mOut (t : Fin cfg0.N) : Memref sig .tc .vmem S1x1 .f32 := win0_3.stage (cfg0.slots t 3)
abbrev mScore : Memref sig .tc .vmem S1024x1 .f32 := Memref.whole cc0_scratch0
abbrev mCount : Memref sig .tc .vmem S1024x1 .i32 := Memref.whole cc0_scratch1

/-- One point: from scratches as the points before left them, the body leaves them as this point does, and at the last
    point the result. -/
theorem body_point (c : Dev nD) (t : Fin cfg0.N) (o : Vec F S1x1 .f32) (s : Vec F S1024x1 .f32) (n : Vec F S1024x1 .i32)
    (hs : t.val ≠ 0 → s = scoreAt m c t.val) (hn : 49 < t.val → n = countAt m c t.val) :
    ∃ (o' : Vec F S1x1 .f32) (n' : Vec F S1024x1 .i32), (49 < t.val + 1 → n' = countAt m c (t.val + 1)) ∧ (t.val = 97 → o' = resultAt m c)
      ∧ (t.val ≠ 97 → o' = o)
      ∧ ∀ (E : Set ℕ) (K : PUnit → sProp 𝕄),
        iprop(Held c (mQ t) (mKeys t) (mGt t) (mOut t) mScore mCount (iblk m c 0 t) (iblk m c 1 t) (iblk m c 2 t) o s n
          ∗ (Held c (mQ t) (mKeys t) (mGt t) (mOut t) mScore mCount (iblk m c 0 t) (iblk m c 1 t) (iblk m c 2 t) o' (scoreAt m c (t.val + 1)) n' -∗ K ⟨⟩))
        ⊢ wp frame (wpE (defs₀ (F := F)) Variants.none c none) E (bodyAt0 t) K := by
  have hN : t.val < 98 := Nat.lt_of_lt_of_eq t.isLt N_0
  have z1 := zeroesScore_iff t
  have z2 := addsScore_iff t
  have z3 := zeroesCount_iff t
  have z4 := addsCount_iff t
  have z5 := writesResult_iff t
  unfold bodyAt0
  by_cases h49 : t.val < 49
  · by_cases h0 : t.val = 0
    · refine ⟨o, n, fun h => by omega, fun h => by omega, fun _ => rfl, fun E K => ?_⟩
      rw [scoreAt_succ m c t h49, show scoreAt m c t.val = k0_pay3 by rw [h0]; rfl]
      exact body_first c _ _ _ _ _ _ _ _ _ _ _ _ _ _ _ _ _ _ _ E K (z1.mpr h0) (z2.mpr h49) (fun h => by have := z3.mp h; omega)
        (fun h => by have := z4.mp h; omega) (fun h => by have := z5.mp h; omega)
    · refine ⟨o, n, fun h => by omega, fun h => by omega, fun _ => rfl, fun E K => ?_⟩
      rw [scoreAt_succ m c t h49, ← hs h0]
      exact body_score c _ _ _ _ _ _ _ _ _ _ _ _ _ _ _ _ _ _ _ E K (fun h => h0 (z1.mp h)) (z2.mpr h49) (fun h => by have := z3.mp h; omega)
        (fun h => by have := z4.mp h; omega) (fun h => by have := z5.mp h; omega)
  · have h49' : 49 ≤ t.val := by omega
    have hss := hs (by omega)
    rw [scoreAt_stay m c _ h49', ← hss, countAt_succ m c t h49', ← hss]
    by_cases ht : t.val = 49
    · refine ⟨o, _, fun _ => rfl, fun h => by omega, fun _ => rfl, fun E K => ?_⟩
      rw [show countAt m c t.val = k0_pay5 by rw [ht]; exact countAt_turn m c]
      exact body_turn c _ _ _ _ _ _ _ _ _ _ _ _ _ _ _ _ _ _ _ E K (fun h => by have := z1.mp h; omega) (fun h => h49 (z2.mp h)) (z3.mpr ht)
        (z4.mpr h49') (fun h => by have := z5.mp h; omega)
    · rw [← hn (by omega)]
      by_cases hl : t.val = 97
      · refine ⟨k0_pay7 (k0_pay6 (grid0.coords t) (iblk m c 0 t) (iblk m c 1 t) (iblk m c 2 t) s n), _, fun _ => rfl, fun _ => ?_,
          fun h => absurd hl h, fun E K => ?_⟩
        rotate_left
        · exact body_last c _ _ _ _ _ _ _ _ _ _ _ _ _ _ _ _ _ _ _ E K (fun h => by have := z1.mp h; omega) (fun h => h49 (z2.mp h)) (fun h => ht (z3.mp h))
            (z4.mpr h49') (z5.mpr hl)
        · have e : countAt m c 98 = countAt m c (t.val + 1) := by rw [hl]
          rw [resultAt, e, countAt_succ m c t h49', ← hss, ← hn (by omega)]
      · refine ⟨o, _, fun _ => rfl, fun h => absurd h hl, fun _ => rfl, fun E K => ?_⟩
        exact body_count c _ _ _ _ _ _ _ _ _ _ _ _ _ _ _ _ _ _ _ E K (fun h => by have := z1.mp h; omega) (fun h => h49 (z2.mp h)) (fun h => ht (z3.mp h))
          (z4.mpr h49') (fun h => hl (z5.mp h))

/-- The result's buffer is left alone at every point but the last. -/
theorem idle_out : ∀ t : Fin cfg0.N, t.val ≠ 97 → cfg0.idle 3 (grid0.coords t) = true := by decide +kernel
theorem noFlush_out : ∀ t : Fin cfg0.N, t.val ≠ 97 → (cfg0.win 3).flush t = false := by decide +kernel
theorem live_out : ∀ t : Fin cfg0.N, t.val = 97 → cfg0.idle 3 (grid0.coords t) = false := by decide +kernel

/-! ## The pipeline's proof data -/

/-- The invariant before point `n`: the scores' scratch holds `scoreAt` from the second point on, the counts' scratch
    `countAt` once the second pass has begun; before that they hold anything. -/
def Inv (c : Dev nD) (n : ℕ) : sProp 𝕄 :=
  iprop(iprop((∃ s, ⌜n ≠ 0 → s = scoreAt m c n⌝ ∗ owns (c : Thread nD τ) mScore fullShare s)
      ∗ (∃ k, ⌜49 < n → k = countAt m c n⌝ ∗ owns (c : Thread nD τ) mCount fullShare k)) ∗ (∃ r, prngReg c r))

/-- Scratches at anything, as the launch gives and takes them. -/
theorem anything_eq (c : Dev nD) : (Pipeline.ΦA spec0 c : sProp 𝕄)
    = iprop(iprop((∃ s, owns (c : Thread nD τ) mScore fullShare s) ∗ (∃ k, owns (c : Thread nD τ) mCount fullShare k)) ∗ (∃ r, prngReg c r)) := by
  unfold Pipeline.ΦA; rw [scopedRest0_eq]; simp only [mScore, mCount, owns_whole]; try rfl

/-- The proof data: the arrays as the launch finds them; each input's buffer at its block; the result's at `resultAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => resultAt m c
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = resultAt m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (mQ t) fullShare ((dats m 0 c).before 0 t d))
    ∗ (∃ d, owns (c : Thread nD τ) (mKeys t) fullShare ((dats m 0 c).before 1 t d))
    ∗ (∃ d, owns (c : Thread nD τ) (mGt t) fullShare ((dats m 0 c).before 2 t d))
    ∗ (∃ d, owns (c : Thread nD τ) (mOut t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2]
  rw [show (dats m 0 c).owesAt () t.succ = (dats m 0 c).owesAt () t.castSucc from rfl]
  rw [show (dats m 0 c).Φ t.succ = Inv m c (t.val + 1) from rfl, show (dats m 0 c).Φ t.castSucc = Inv m c t.val from rfl]
  rw [show (dats m 0 c).leavesExact 0 t = owns (c : Thread nD τ) (mQ t) fullShare (iblk m c 0 t) from rfl]
  rw [show (dats m 0 c).leavesExact 1 t = owns (c : Thread nD τ) (mKeys t) fullShare (iblk m c 1 t) from rfl]
  rw [show (dats m 0 c).leavesExact 2 t = owns (c : Thread nD τ) (mGt t) fullShare (iblk m c 2 t) from rfl]
  unfold Inv
  iintro ⟨⟨⟨⟨%s, %hs, HS⟩, ⟨%k, %hk, HK⟩⟩, Hg⟩, Ho, ⟨%d0, H0⟩, ⟨%d1, H1⟩, ⟨%d2, H2⟩, ⟨%d3, H3⟩⟩
  obtain ⟨o', k', hk', hl, hst, hrun⟩ := body_point m c t _ s k hs hk
  iapply (hrun Set.univ _)
  unfold Held
  isplitl [H0 H1 H2 H3 HS HK]
  · isplitl [H0]; · iexact H0
    isplitl [H1]; · iexact H1
    isplitl [H2]; · iexact H2
    isplitl [H3]; · iexact H3
    isplitl [HS]; · iexact HS
    iexact HK
  iintro ⟨H0, H1, H2, H3, HS, HK⟩
  isplitl [HS HK Hg]
  · isplitl [HS HK]
    · isplitl [HS]
      · iexists _; isplitr; swap; · iexact HS
        ipureintro; exact fun _ => rfl
      · iexists _; isplitr; swap; · iexact HK
        ipureintro; exact hk'
    iexact Hg
  isplitl [Ho]; · iexact Ho
  isplitl [H0]; · iexact H0
  isplitl [H1]; · iexact H1
  isplitl [H2]; · iexact H2
  by_cases ht : t.val = 97
  · rw [show (dats m 0 c).leavesExact 3 t = owns (c : Thread nD τ) (mOut t) fullShare (resultAt m c) from by
      unfold Dat.leavesExact; rw [live_out t ht, after0_3], hl ht]
    iexact H3
  · rw [Dat.leavesExact_idle (dats m 0 c) 3 t (idle_out t ht) (noFlush_out t ht), hst ht]
    iexists _; iexact H3

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

theorem hin (c : Dev nD) : (Pipeline.ΦA spec0 c : sProp 𝕄) ⊢ (dats m 0 c).Φ 0 := by
  rw [show (dats m 0 c).Φ 0 = Inv m c 0 from rfl, anything_eq]; unfold Inv
  iintro ⟨⟨⟨%s, HS⟩, ⟨%k, HK⟩⟩, Hg⟩
  isplitl [HS HK]
  · isplitl [HS]
    · iexists _; isplitr; swap; · iexact HS
      ipureintro; exact fun h => absurd rfl h
    · iexists _; isplitr; swap; · iexact HK
      ipureintro; exact fun h => absurd h (by decide)
  iexact Hg

theorem hout (c : Dev nD) : (dats m 0 c).Φ (Fin.last _) ⊢ (Pipeline.ΦA spec0 c : sProp 𝕄) := by
  rw [show (dats m 0 c).Φ (Fin.last _) = Inv m c cfg0.N from rfl, anything_eq]; unfold Inv
  iintro ⟨⟨⟨%s, %hs, HS⟩, ⟨%k, %hk, HK⟩⟩, Hg⟩
  isplitl [HS HK]
  · isplitl [HS]
    · iexists _; iexact HS
    · iexists _; iexact HK
  iexact Hg

/-! ## The run -/

set_option backward.isDefEq.respectTransparency.types false in
set_option maxHeartbeats 800000 in
/-- The whole program from any memory: it ends with every array of the launch as the proof data say, every other buffer as
    the operations after the launch leave it, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_main m ρ))

/-- The arguments end as they were and every semaphore counter ends at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main m ρ))

end Cert.KernelIdeal.Body

end
-- ==== Proof.KernelBlocks.lean ====
/- The blocks the kernel's body reads at a point, over the arguments. -/
module

public import proofs.«01_k».proof.Proof.KernelIdealFrame
public import Idealize.ShloMosaic.Lib.Pointwise
public import Idealize.ShloMosaic.Lib.Claim

@[expose] public section

set_option maxRecDepth 16384

noncomputable section

namespace Cert.KernelIdeal.Value

open Cert.KernelIdeal Cert.KernelIdeal.Gen Cert.KernelIdeal.Body
open Idealize.ShloMosaic Idealize.ShloMosaic.TcCoe Idealize.SL.Sem

variable (m : (ℓ : Loc nD τ sig) → Buf (Elt Ideal) ℓ)

/-- The blocks' places. -/
theorem idx : ∀ t : Fin cfg0.N, win0_0.index t = ![0, 0] ∧ win0_1.index t = ![t.val % 49, 0] ∧ win0_2.index t = ![0, 0] :=
  (by decide +kernel : ∀ t : Fin grid0.N, _)

/-- The query rows a point reads. -/
def qBlock (c : Dev nD) (t : Fin cfg0.N) : FVec Ideal S1024x128 .f32 := iblk m c 0 t
/-- The key rows a point reads. -/
def yBlock (c : Dev nD) (t : Fin cfg0.N) : FVec Ideal S2048x128 .f32 := iblk m c 1 t
/-- The targets a point reads. -/
def gBlock (c : Dev nD) (t : Fin cfg0.N) : IVec S1024x1 32 := iblk m c 2 t

theorem scoreAt_step (c : Dev nD) (t : Fin cfg0.N) (h : t.val < 49) :
    scoreAt m c (t.val + 1) = k0_pay4 (grid0.coords t) (qBlock m c t) (yBlock m c t) (gBlock m c t) (scoreAt m c t.val) := scoreAt_succ m c t h

theorem countAt_step (c : Dev nD) (t : Fin cfg0.N) (h : 49 ≤ t.val) :
    countAt m c (t.val + 1) = k0_pay6 (grid0.coords t) (qBlock m c t) (yBlock m c t) (gBlock m c t) (scoreAt m c t.val) (countAt m c t.val) := countAt_succ m c t h

/-- Every point reads all the query rows. -/
theorem qBlock_eq (c : Dev nD) (t : Fin cfg0.N) : qBlock m c t = m ((c.tc : Thread nD τ).loc main_arg0) := by
  show (iblk m c 0 t : Vec Ideal S1024x128 .f32) = _
  blk_ext! [iblk, V, idx t]

/-- Every point reads all the targets. -/
theorem gBlock_eq (c : Dev nD) (t : Fin cfg0.N) : gBlock m c t = m ((c.tc : Thread nD τ).loc main_arg2) := by
  show (iblk m c 2 t : Vec Ideal S1024x1 .i32) = _
  blk_ext! [iblk, V, idx t]

/-- The array of keys the region is given: the keys, padded below. -/
theorem padded_eq (c : Dev nD) :
    (V m c main_v0 : Vec Ideal S100352x128 .f32) = pad S100352x128 ![0, 0] ![352, 0] ![0, 0] (m ((c.tc : Thread nD τ).loc main_arg1) : FVec Ideal S100000x128 .f32)
      (sitofp (F := Ideal) .f32 (constantI S_ 32 0#32)) pads_S100000x128_S100352x128_03520_000 h_S_ := by
  show StableHlo.after (List.flatten [hostOps0, hostOps0_1]) (fun b => m (c, b)) (Proc.devRef .tc main_v0) = _
  simp only [hostOps0, hostOps0_1, List.flatten_cons, List.flatten_nil, List.append_nil, List.cons_append, List.nil_append,
    StableHlo.TRef.binary, StableHlo.TRef.unary, StableHlo.TRef.toBuf, StableHlo.TRef.ofBuf, cast_eq]
  after_results_simp <;> rfl

/-- Padding below leaves a row below the key count as it is. -/
theorem pad_apply (Y : Vec Ideal S100000x128 .f32) (z : Vec Ideal S_ .f32) (j : Fin 100352) (h : j.val < 100000) (k : Fin 128) :
    (pad S100352x128 ![0, 0] ![352, 0] ![0, 0] Y z pads_S100000x128_S100352x128_03520_000 h_S_ : Vec Ideal S100352x128 .f32) (ix2 j k)
      = Y (ix2 (⟨j.val, h⟩ : Fin 100000) k) := by
  pointwise []
  exact dif_pos h

/-- A row below the key count is that key. -/
theorem padded_apply (c : Dev nD) (j : Fin 100352) (h : j.val < 100000) (k : Fin 128) :
    (V m c main_v0 : Vec Ideal S100352x128 .f32) (ix2 j k) = (m ((c.tc : Thread nD τ).loc main_arg1) : Vec Ideal S100000x128 .f32) (ix2 (⟨j.val, h⟩ : Fin 100000) k) := by
  rw [padded_eq]
  exact pad_apply _ _ j h k

/-- Row `x` of the key rows a point reads, where it is a row of the array. -/
theorem yBlock_apply (c : Dev nD) (t : Fin cfg0.N) (x : Fin 2048) (h : t.val % 49 * 2048 + x.val < 100000) (k : Fin 128) :
    yBlock m c t (ix2 x k)
      = (m ((c.tc : Thread nD τ).loc main_arg1) : FVec Ideal S100000x128 .f32) (ix2 (⟨t.val % 49 * 2048 + x.val, h⟩ : Fin 100000) k) := by
  refine Eq.trans ?_ (padded_apply m c ⟨t.val % 49 * 2048 + x.val, by omega⟩ h k)
  show (iblk m c 1 t : Vec Ideal S2048x128 .f32) (ix2 x k) = _
  blk_ext [iblk, idx t]

end Cert.KernelIdeal.Value

end
-- ==== Proof.KernelPayload.lean ====
/- What one step of the kernel adds, in closed form, over any query rows, key rows, targets and running values. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Pure

open Cert.KernelIdeal Cert.KernelIdeal.Gen
open Idealize.ShloMosaic Idealize.ShloMosaic.TcCoe Idealize.SL.Sem
open Idealize.ShloMosaic.WordCmp

/-- Adding up, as words, a one for every index where `p` holds gives their number. -/
theorem fold_count {n : ℕ} (p : Fin n → Prop) [DecidablePred p] (f : Fin n → BitVec 32) (hf : ∀ x, f x = if p x then 1#32 else 0#32) :
    Finset.fold IntOp.addi 0#32 f Finset.univ = BitVec.ofNat 32 (Finset.univ.filter p).card := by
  rw [Finset.card_filter]
  generalize (Finset.univ : Finset (Fin n)) = s
  induction s using Finset.induction_on with
  | empty => rfl
  | insert a s ha ih =>
    rw [Finset.fold_insert ha, Finset.sum_insert ha, ih, hf, ← addi_ofNat]
    by_cases h : p a <;> simp only [h, if_true, if_false]

/-- The column a step's row `x` stands for, as a word. -/
theorem column_word (k x : ℕ) :
    IntOp.addi (Scalar.muli (BitVec.ofNat 32 k) 2048#32) (BitVec.ofNat 32 x) = BitVec.ofNat 32 (k * 2048 + x) := by
  show IntOp.addi (IntOp.muli (BitVec.ofNat 32 k) (BitVec.ofNat 32 2048)) (BitVec.ofNat 32 x) = _
  rw [muli_ofNat, addi_ofNat]

theorem pay3_apply (r : Fin 1024) : (k0_pay3 (F := Ideal) (ix2 r (0 : Fin 1)) : EReal) = 0 := by
  pointwise [k0_pay3]

theorem pay5_apply (r : Fin 1024) : k0_pay5 (ix2 r (0 : Fin 1)) = 0#32 := by
  pointwise [k0_pay5]

/-- A step of the first pass adds to row `r` the score against the target, if the target is among the step's columns. -/
theorem pay4_apply (i : grid0.Coords) (q : Vec Ideal S1024x128 .f32) (y : Vec Ideal S2048x128 .f32) (g : Vec Ideal S1024x1 .i32)
    (s : Vec Ideal S1024x1 .f32) (r : Fin 1024) (h : (i 1).val < 49) :
    (k0_pay4 i q y g s (ix2 r (0 : Fin 1)) : EReal)
      = s (ix2 r (0 : Fin 1)) + ∑ x : Fin 2048, if (i 1).val * 2048 + x.val = (g (ix2 r (0 : Fin 1)) : BitVec 32).toNat
          then ∑ k : Fin 128, (q (ix2 r k) : EReal) * y (ix2 x k) else 0 := by
  pointwise [k0_pay4, k0_pay2, k0_pay1]
  refine congrArg (fun z : EReal => _ + z) (Finset.sum_congr rfl fun x _ => ?_)
  rw [column_word, cmpi_eq_eq]
  have hx := x.isLt
  have e : BitVec.ofNat 32 ((i 1).val * 2048 + x.val) = (g (ix2 r (0 : Fin 1)) : BitVec 32)
      ↔ (i 1).val * 2048 + x.val = (g (ix2 r (0 : Fin 1)) : BitVec 32).toNat := by
    rw [← BitVec.toNat_inj, BitVec.toNat_ofNat, Nat.mod_eq_of_lt (by omega)]
  by_cases hc : (i 1).val * 2048 + x.val = (g (ix2 r (0 : Fin 1)) : BitVec 32).toNat
  · rw [if_pos hc, select_of_eq_one (by rw [decide_eq_true (e.mpr hc)]; rfl)]
  · rw [if_neg hc, select_of_eq_zero (by rw [decide_eq_false fun he => hc (e.mp he)]; rfl)]

/-- Whether `a`, or `b` and `c`, and also `d`, as a word. -/
theorem and_or_bits (a b c d : Bool) :
    BitVec.setWidth 32 (IntOp.andi (IntOp.ori (BitVec.ofBool a) (IntOp.andi (BitVec.ofBool b) (BitVec.ofBool c))) (BitVec.ofBool d))
      = if (a || (b && c)) && d then 1#32 else 0#32 := by
  revert a b c d; decide

/-- A step of the second pass adds to row `r` the number of the step's columns that come before the target. -/
theorem pay6_apply (i : grid0.Coords) (q : Vec Ideal S1024x128 .f32) (y : Vec Ideal S2048x128 .f32) (g : Vec Ideal S1024x1 .i32)
    (s : Vec Ideal S1024x1 .f32) (n : Vec Ideal S1024x1 .i32) (r : Fin 1024) (h : (i 1).val < 49)
    (hg : (g (ix2 r (0 : Fin 1)) : BitVec 32).toNat < 2 ^ 31) (p : Fin 2048 → Prop) [DecidablePred p]
    (hp : ∀ x, p x ↔ ((s (ix2 r (0 : Fin 1)) : EReal) < ∑ k : Fin 128, (q (ix2 r k) : EReal) * y (ix2 x k)
        ∨ (∑ k : Fin 128, (q (ix2 r k) : EReal) * y (ix2 x k) = s (ix2 r (0 : Fin 1)) ∧ (i 1).val * 2048 + x.val < (g (ix2 r (0 : Fin 1)) : BitVec 32).toNat))
      ∧ (i 1).val * 2048 + x.val < 100000) :
    k0_pay6 i q y g s n (ix2 r (0 : Fin 1)) = IntOp.addi (n (ix2 r (0 : Fin 1))) (BitVec.ofNat 32 (Finset.univ.filter p).card) := by
  pointwise [k0_pay6, k0_pay2, k0_pay1]
  refine congrArg _ (fold_count p _ fun x => ?_)
  have hx := x.isLt
  have hs : ∀ b : BitVec 32, b.toNat < 2 ^ 31 → IntOp.cmpi .slt (BitVec.ofNat 32 ((i 1).val * 2048 + x.val)) b
      = BitVec.ofBool (decide ((i 1).val * 2048 + x.val < b.toNat)) := by
    intro b hb
    rw [cmpi_slt_eq, toInt_eq_toNat_of_lt_half (x := b) (by simpa using hb), toInt_eq_toNat_of_lt_half (by
      rw [BitVec.toNat_ofNat, Nat.mod_eq_of_lt (by omega)]; norm_num; omega), BitVec.toNat_ofNat, Nat.mod_eq_of_lt (by omega)]
    exact congrArg BitVec.ofBool (decide_eq_decide.mpr Nat.cast_lt)
  rw [column_word, hs _ hg, hs _ (by decide)]
  have e : (100000#32).toNat = 100000 := by decide
  rw [e]
  rw [and_or_bits]
  refine if_congr ?_ rfl rfl
  rw [hp x]
  simp only [Bool.and_eq_true, Bool.or_eq_true, decide_eq_true_eq]

/-- The result is the mean of one over the counts plus one. -/
theorem pay7_apply (n : Vec Ideal S1024x1 .i32) :
    (k0_pay7 n (ix2 (0 : Fin 1) (0 : Fin 1)) : EReal)
      = Ideal.div (∑ r : Fin 1024, Ideal.div 1 (FloatOps.sitofp (F := Ideal) .f32 (IntOp.addi (n (ix2 r (0 : Fin 1))) 1#32)))
          (Ideal.ofBits .f32 0x44800000#32) := by
  pointwise [k0_pay7]
  refine congrArg (fun z : EReal => Ideal.div z _) (Finset.sum_congr rfl fun r _ => ?_)
  have ht : Ideal.ofBits .f32 0x7F800000#32 = ⊤ := by simp [Ideal.ofBits, Ideal.ieee]
  rw [Finset.univ_unique, Finset.sum_singleton, Finset.fold_singleton, ht, min_eq_left le_top]
  rfl

end Cert.KernelIdeal.Pure

end
-- ==== Proof.Rank.lean ====
/- The rank of a column, two ways: as the number of columns that come before it (greater score, or the same score and a
   lower index), and as what sorting the columns by descending score, and then sorting the sorted columns' indices, puts at
   the column's place. -/
module

public import Idealize.ShloMosaic.Lib.SortFacts
public import Idealize.ShloMosaic.Lib.PlanTiles.StableSort
public import Idealize.ShloMosaic.Lib.Pointwise

@[expose] public section

noncomputable section

namespace Cert.Rank

open Idealize.ShloMosaic

variable {n : ℕ} {κ : Type} [LinearOrder κ]

/-- Column `i` comes before column `j`: a lower key, or the same key and a lower index. -/
def Before (key : Fin n → κ) (i j : Fin n) : Prop := key i < key j ∨ (key i = key j ∧ i < j)

instance (key : Fin n → κ) (i j : Fin n) : Decidable (Before key i j) := by unfold Before; infer_instance

/-- How many columns come before column `j`. -/
def rank (key : Fin n → κ) (j : Fin n) : ℕ := (Finset.univ.filter fun i => Before key i j).card

/-- How many columns have a greater key than column `a`: a number that orders the columns as the key does, descending. -/
private def above (key : Fin n → κ) (a : Fin n) : ℕ := (Finset.univ.filter fun i => key a < key i).card

private theorem above_lt (key : Fin n → κ) (a b : Fin n) : above key b < above key a ↔ key a < key b := by
  have mono : ∀ a b, key a ≤ key b → above key b ≤ above key a := fun a b h =>
    Finset.card_le_card fun i hi => by
      simp only [Finset.mem_filter, Finset.mem_univ, true_and] at hi ⊢
      exact lt_of_le_of_lt h hi
  constructor
  · intro h
    by_contra hn
    exact absurd (mono b a (not_lt.mp hn)) (by omega)
  · intro h
    refine Finset.card_lt_card ⟨fun i hi => ?_, fun hsub => ?_⟩
    · simp only [Finset.mem_filter, Finset.mem_univ, true_and] at hi ⊢
      exact lt_trans h hi
    · have : b ∈ Finset.univ.filter fun i => key b < key i := hsub (by simpa using h)
      simp at this

/-- A stable sort by key puts the columns in the order `Before`. -/
theorem sortedFrom_before (key : Fin n → κ) (i j : Fin n) (h : i < j) :
    Before key (sortedFrom (fun a b => decide (key a < key b)) i) (sortedFrom (fun a b => decide (key a < key b)) j) := by
  have e : (fun a b : Fin n => decide (key a < key b)) = fun a b => decide (above key b < above key a) := by
    funext a b; exact decide_eq_decide.mpr (above_lt key a b).symm
  have hp := PlanTiles.pairwise_stableSort_lex (above key) (· < ·) (List.finRange n) (List.pairwise_lt_finRange n)
  rw [← e] at hp
  have hl := List.pairwise_iff_get.mp hp (i.cast (length_sortPositions n _).symm) (j.cast (length_sortPositions n _).symm) h
  rcases hl with hl | ⟨hl, hl'⟩
  · exact Or.inl ((above_lt key _ _).mp hl)
  · refine Or.inr ⟨?_, hl'⟩
    have hl : above key (sortedFrom (fun a b => decide (key a < key b)) i) = above key (sortedFrom (fun a b => decide (key a < key b)) j) := hl
    refine le_antisymm (not_lt.mp fun hc => ?_) (not_lt.mp fun hc => ?_)
    · have := (above_lt key _ _).mpr hc; omega
    · have := (above_lt key _ _).mpr hc; omega

theorem before_irrefl (key : Fin n → κ) (i : Fin n) : ¬Before key i i := by
  rintro (h | ⟨-, h⟩)
  · exact lt_irrefl _ h
  · exact lt_irrefl _ h

theorem before_asymm (key : Fin n → κ) (i j : Fin n) (h : Before key i j) : ¬Before key j i := by
  rcases h with h | ⟨h, h'⟩ <;> rintro (k | ⟨k, k'⟩)
  · exact lt_asymm h k
  · exact absurd h (by rw [k]; exact lt_irrefl _)
  · exact absurd k (by rw [h]; exact lt_irrefl _)
  · exact lt_asymm h' k'

/-- Sorting the columns by key, and then sorting the sorted columns' indices, puts a column's rank at its place. -/
theorem sortedFrom_sortedFrom (key : Fin n → κ) (j : Fin n) :
    (sortedFrom (fun a b => decide (sortedFrom (fun a b => decide (key a < key b)) a < sortedFrom (fun a b => decide (key a < key b)) b)) j).val
      = rank key j := by
  generalize hσ : sortedFrom (fun a b => decide (key a < key b)) = σ
  have hb : ∀ a b, a < b → Before key (σ a) (σ b) := fun a b h => by rw [← hσ]; exact sortedFrom_before key a b h
  have hσi : Function.Bijective σ := by
    rw [← hσ]; exact ⟨sortedFrom_injective _, sortedFrom_surjective _⟩
  generalize hτ : sortedFrom (fun a b => decide (σ a < σ b)) = τ
  have hτi : Function.Injective τ := by rw [← hτ]; exact sortedFrom_injective _
  -- the second sort makes `σ ∘ τ` rise, so it moves nothing
  have hup : StrictMono (σ ∘ τ) := by
    intro a b h
    have := sortedFrom_before σ a b h
    rw [hτ] at this
    rcases this with h1 | ⟨h1, -⟩
    · exact h1
    · exact absurd (hτi (hσi.1 h1)) (ne_of_lt h)
  have hid : ∀ a, σ (τ a) = a := by
    have : (σ ∘ τ) = id := (StrictMono.range_inj hup strictMono_id).mp (by
      have hs : Function.Surjective (σ ∘ τ) := Finite.surjective_of_injective hup.injective
      rw [hs.range_eq]; simp)
    exact fun a => congrFun this a
  -- the columns before `j` are those `σ` lists before the place of `j`
  have hiff : ∀ k, Before key (σ k) j ↔ k < τ j := by
    intro k
    constructor
    · intro h
      by_contra hk
      rcases lt_or_eq_of_le (not_lt.mp hk) with h1 | h1
      · have := hb _ _ h1; rw [hid] at this; exact before_asymm key _ _ this h
      · rw [← h1, hid] at h; exact before_irrefl key _ h
    · intro h
      have := hb _ _ h
      rwa [hid] at this
  have hcard : (Finset.univ.filter fun i => Before key i j).card = (Finset.univ.filter fun k => k < τ j).card := by
    symm
    refine Finset.card_bij (fun k _ => σ k) (fun k hk => ?_) (fun a _ b _ h => hσi.1 h) (fun i hi => ?_)
    · simp only [Finset.mem_filter, Finset.mem_univ, true_and] at hk ⊢
      exact (hiff k).mpr hk
    · obtain ⟨k, rfl⟩ := hσi.2 i
      simp only [Finset.mem_filter, Finset.mem_univ, true_and] at hi ⊢
      exact ⟨k, (hiff k).mp hi, rfl⟩
  rw [rank, hcard]
  have : (Finset.univ.filter fun k => k < τ j) = Finset.Iio (τ j) := by ext k; simp
  rw [this, Fin.card_Iio]

/-- The score of row `x` against row `y`: their inner product. -/
def score {d : ℕ} (X : FVec Ideal ⟨2, ![1024, 128]⟩ .f32) (Y : FVec Ideal ⟨2, ![d, 128]⟩ .f32) (r : Fin 1024) (j : Fin d) : EReal :=
  ∑ k : Fin 128, X (ix2 r k) * Y (ix2 j k)

/-- The mean, over the rows `r` of `X`, of one over one more than the rank of column `g r` among all columns by descending score. -/
def meanReciprocalRank {d : ℕ} (X : FVec Ideal ⟨2, ![1024, 128]⟩ .f32) (Y : FVec Ideal ⟨2, ![d, 128]⟩ .f32) (g : Fin 1024 → Fin d) : EReal :=
  Ideal.div (∑ r : Fin 1024, Ideal.div 1 (FloatOps.sitofp (F := Ideal) .f32
      (IntOp.addi (BitVec.ofNat 32 (rank (fun j => -score X Y r j) (g r))) 1#32)))
    (Ideal.ofBits .f32 0x44800000#32)

end Cert.Rank

end
-- ==== Proof.KernelValue.lean ====
/- What the kernel computes, in closed form: the mean, over the rows, of one over the target's rank plus one. -/
module

public import proofs.«01_k».proof.Proof.KernelBlocks
public import proofs.«01_k».proof.Proof.KernelPayload
public import proofs.«01_k».proof.Proof.Rank

@[expose] public section

set_option maxRecDepth 16384

noncomputable section

namespace Cert.KernelIdeal.Value

open Cert.KernelIdeal Cert.KernelIdeal.Gen Cert.KernelIdeal.Body Cert.KernelIdeal.Pure
open Idealize.ShloMosaic Idealize.ShloMosaic.TcCoe Idealize.SL.Sem
open Cert.Rank Idealize.ShloMosaic.WordCmp

variable (m : (ℓ : Loc nD τ sig) → Buf (Elt Ideal) ℓ)

/-- The query rows. -/
abbrev queries (c : Dev nD) : FVec Ideal S1024x128 .f32 := m ((c.tc : Thread nD τ).loc main_arg0)
/-- The key rows. -/
abbrev keyRows (c : Dev nD) : FVec Ideal S100000x128 .f32 := m ((c.tc : Thread nD τ).loc main_arg1)
/-- Row `r`'s target. -/
abbrev target (c : Dev nD) (r : Fin 1024) : ℕ := ((m ((c.tc : Thread nD τ).loc main_arg2) : IVec S1024x1 32) (ix2 r (0 : Fin 1))).toNat

/-- Row `r`'s score against column `j`, for a column of the padded array too. -/
def scoreOf (c : Dev nD) (r : Fin 1024) (j : ℕ) : EReal := if h : j < 100000 then score (queries m c) (keyRows m c) r ⟨j, h⟩ else 0

/-- The score of a step's row `x`, where it is a column of the array. -/
theorem step_score (c : Dev nD) (t : Fin cfg0.N) (r : Fin 1024) (x : Fin 2048) (h : t.val % 49 * 2048 + x.val < 100000) :
    ∑ k : Fin 128, (qBlock m c t (ix2 r k) : EReal) * yBlock m c t (ix2 x k) = scoreOf m c r (t.val % 49 * 2048 + x.val) := by
  rw [scoreOf, dif_pos h, score]
  refine Finset.sum_congr rfl fun k _ => ?_
  rw [qBlock_eq, yBlock_apply m c t x h k]

/-- The sum over a step's columns of what is only at the target. -/
theorem sum_hit (a g : ℕ) (v : EReal) :
    ∑ x : Fin 2048, (if a + x.val = g then v else 0) = if a ≤ g ∧ g < a + 2048 then v else 0 := by
  by_cases h : a ≤ g ∧ g < a + 2048
  · rw [if_pos h, Finset.sum_eq_single (⟨g - a, by omega⟩ : Fin 2048)]
    · rw [if_pos (by show a + (g - a) = g; omega)]
    · intro x _ hx
      rw [if_neg]
      intro he
      exact hx (Fin.ext (by show x.val = g - a; omega))
    · intro hn; exact absurd (Finset.mem_univ _) hn
  · rw [if_neg h]
    refine Finset.sum_eq_zero fun x _ => if_neg fun he => h ?_
    have := x.isLt
    omega

/-- After `n` steps of the first pass, row `r` holds its score against its target, if the target was among the columns seen. -/
theorem scoreAt_apply (c : Dev nD) (r : Fin 1024) (hg : target m c r < 100000) (n : ℕ) (hn : n ≤ 49) :
    (scoreAt m c n (ix2 r (0 : Fin 1)) : EReal) = if target m c r < n * 2048 then scoreOf m c r (target m c r) else 0 := by
  induction n with
  | zero => rw [if_neg (by omega)]; exact pay3_apply r
  | succ n ih =>
    obtain ⟨-, -, hc⟩ := coords_eq (pt n (by omega))
    have hm : n % 49 = n := Nat.mod_eq_of_lt (by omega)
    have hc : (grid0.coords (pt n (by omega)) 1).val = n := hc.trans hm
    rw [scoreAt_step m c (pt n (by omega)) (by show n < 49; omega), pay4_apply _ _ _ _ _ r (by omega), ih (by omega), hc]
    have hb : (gBlock m c (pt n (by omega)) (ix2 r (0 : Fin 1)) : BitVec 32).toNat = target m c r := by
      rw [gBlock_eq]
    have hsum : (∑ x : Fin 2048, if n * 2048 + x.val = (gBlock m c (pt n (by omega)) (ix2 r (0 : Fin 1)) : BitVec 32).toNat
          then ∑ k : Fin 128, (qBlock m c (pt n (by omega)) (ix2 r k) : EReal) * yBlock m c (pt n (by omega)) (ix2 x k) else 0)
        = ∑ x : Fin 2048, (if n * 2048 + x.val = target m c r then scoreOf m c r (target m c r) else 0) := by
      refine Finset.sum_congr rfl fun x _ => ?_
      rw [hb]
      by_cases he : n * 2048 + x.val = target m c r
      · rw [if_pos he, if_pos he, step_score m c _ r x (by show n % 49 * 2048 + x.val < 100000; omega), ← he]
        show scoreOf m c r (n % 49 * 2048 + x.val) = _
        rw [hm]
      · rw [if_neg he, if_neg he]
    refine (congrArg (fun z : EReal => _ + z) (hsum.trans (sum_hit _ _ _))).trans ?_
    by_cases h1 : target m c r < n * 2048
    · rw [if_pos h1, if_neg (by omega), if_pos (by omega), add_zero]
    · by_cases h2 : target m c r < (n + 1) * 2048
      · rw [if_neg h1, if_pos (by omega), if_pos h2, zero_add]
      · rw [if_neg h1, if_neg (by omega), if_neg h2, add_zero]

/-- From the second pass on, row `r` holds its score against its target. -/
theorem scoreAt_late (c : Dev nD) (r : Fin 1024) (hg : target m c r < 100000) (n : ℕ) :
    (scoreAt m c (49 + n) (ix2 r (0 : Fin 1)) : EReal) = scoreOf m c r (target m c r) := by
  induction n with
  | zero => rw [Nat.add_zero, scoreAt_apply m c r hg 49 le_rfl, if_pos (by omega)]
  | succ n ih => rw [← Nat.add_assoc, scoreAt_stay m c (49 + n) (by omega)]; exact ih

/-- Column `j` comes before row `r`'s target: a greater score, or the same score and a lower index. -/
def Ahead (c : Dev nD) (r : Fin 1024) (j : ℕ) : Prop :=
  (scoreOf m c r (target m c r) < scoreOf m c r j ∨ (scoreOf m c r j = scoreOf m c r (target m c r) ∧ j < target m c r)) ∧ j < 100000

open Classical in
/-- After `n` steps of the second pass, row `r` holds how many of the columns seen come before its target. -/
theorem countAt_apply (c : Dev nD) (r : Fin 1024) (hg : target m c r < 100000) (n : ℕ) (hn : n ≤ 49) :
    countAt m c (49 + n) (ix2 r (0 : Fin 1)) = BitVec.ofNat 32 ((Finset.range (n * 2048)).filter (Ahead m c r)).card := by
  induction n with
  | zero => rw [Nat.add_zero, countAt_turn, pay5_apply]; simp
  | succ n ih =>
    obtain ⟨-, -, hc⟩ := coords_eq (pt (49 + n) (by omega))
    have hm : (49 + n) % 49 = n := by omega
    have hc : (grid0.coords (pt (49 + n) (by omega)) 1).val = n := hc.trans hm
    have hb : (gBlock m c (pt (49 + n) (by omega)) (ix2 r (0 : Fin 1)) : BitVec 32).toNat = target m c r := by
      rw [gBlock_eq]
    rw [← Nat.add_assoc, countAt_step m c (pt (49 + n) (by omega)) (by show 49 ≤ 49 + n; omega),
      pay6_apply _ _ _ _ _ _ r (by omega) (by rw [hb]; omega) (fun x => Ahead m c r (n * 2048 + x.val)), ih (by omega), addi_ofNat]
    · refine congrArg (BitVec.ofNat 32) ?_
      rw [Finset.card_filter, Finset.card_filter, Finset.card_filter, Nat.succ_mul, Finset.sum_range_add, Finset.sum_range (n := 2048)]
    · intro x
      rw [hb, hc, scoreAt_late m c r hg n, Ahead]
      by_cases hx : n * 2048 + x.val < 100000
      · have hs := step_score m c (pt (49 + n) (by omega)) r x (by show (49 + n) % 49 * 2048 + x.val < 100000; omega)
        rw [hs]
        show _ ↔ (_ < scoreOf m c r ((49 + n) % 49 * 2048 + x.val) ∨ scoreOf m c r ((49 + n) % 49 * 2048 + x.val) = _ ∧ _) ∧ _
        rw [hm]
      · simp only [hx, and_false]

/-- After the second pass, row `r` holds its target's rank. -/
theorem countAt_final (c : Dev nD) (r : Fin 1024) (hg : target m c r < 100000) :
    countAt m c 98 (ix2 r (0 : Fin 1)) = BitVec.ofNat 32 (rank (fun j => -score (queries m c) (keyRows m c) r j) ⟨target m c r, hg⟩) := by
  classical
  refine (countAt_apply m c r hg 49 le_rfl).trans (congrArg (BitVec.ofNat 32) ?_)
  have hs : ∀ j : Fin 100000, scoreOf m c r j.val = score (queries m c) (keyRows m c) r j := fun j => dif_pos j.isLt
  rw [rank]
  symm
  refine Finset.card_bij (fun j _ => j.val) (fun j hj => ?_) (fun a _ b _ h => Fin.ext h) (fun j hj => ?_)
  · rw [Finset.mem_filter] at hj ⊢
    refine ⟨Finset.mem_range.mpr (by have := j.isLt; omega), ?_, j.isLt⟩
    rw [hs j, hs ⟨target m c r, hg⟩]
    rcases hj.2 with h | ⟨h, h'⟩
    · exact Or.inl (EReal.neg_lt_neg_iff.mp h)
    · exact Or.inr ⟨neg_injective h, h'⟩
  · rw [Finset.mem_filter] at hj
    obtain ⟨-, h, hlt⟩ := hj
    refine ⟨⟨j, hlt⟩, Finset.mem_filter.mpr ⟨Finset.mem_univ _, ?_⟩, rfl⟩
    rw [hs ⟨j, hlt⟩, hs ⟨target m c r, hg⟩] at h
    rcases h with h | ⟨h, h'⟩
    · exact Or.inl (EReal.neg_lt_neg_iff.mpr h)
    · exact Or.inr ⟨congrArg (fun z : EReal => -z) h, h'⟩

/-- What the last point writes. -/
theorem resultAt_apply (c : Dev nD) (hg : ∀ r, target m c r < 100000) :
    (resultAt m c (ix2 (0 : Fin 1) (0 : Fin 1)) : EReal)
      = meanReciprocalRank (queries m c) (keyRows m c) (fun r => ⟨target m c r, hg r⟩) := by
  rw [resultAt, pay7_apply]
  refine congrArg (fun s : EReal => Ideal.div s _) (Finset.sum_congr rfl fun r _ => ?_)
  rw [countAt_final m c r (hg r)]

/-- The output array ends with what the last point wrote. -/
theorem output_eq (c : Dev nD) : (dats m 0 c).arrAt 3 cfg0.N = resultAt m c := by
  refine (dats m 0 c).arrAt_eq_of_after_last 3 (pt 97 (by omega)) (by decide +kernel) _ fun j => ?_
  blk_simp
  rw [after0_3]

/-- The program's result, after the launch: the output array as a scalar. -/
theorem run_result (ρ : Dev nD → PrngReg) :
    θ_run defs (onTc (τ := τ) (main (F := Ideal))) ⟨m, fun _ => 0, ρ⟩ fun r => ∀ c : Dev nD,
      r.2.mem ((c.tc : Thread nD τ).loc main_v2) = (shapeCast S_ (resultAt m c) shapeCasts_S1x1_S_ : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, h.2 c⟩) (θ_run_and (run_main m ρ) (unchanged m ρ))
  have h2 := (h.1.1 c).2 main_v2 (Pipeline.mem_restRefs_of main_v2 (by decide) (by decide))
  refine h2.trans ?_
  unfold Pipeline.afterTail₀
  simp only [hostOps1, List.flatten_cons, List.flatten_nil, List.append_nil]
  after_region_results
  have hout : Pipeline.withArrays (cfgs 0).spec c (V0 m c) (fun w => (dats m 0 c).arrAt w (cfgs 0).N) (Proc.devRef .tc main_v1) = resultAt m c :=
    (Pipeline.withArrays_arr spec0 launch0.win.arr_inj c (V0 m c) (fun w => (dats m 0 c).arrAt w (cfgs 0).N) 3).trans (output_eq m c)
  rw [hout]
  rfl

/-- The program ends, from any memory whose targets are columns, with the mean reciprocal rank in its result and its arguments unchanged. -/
theorem run_value (ρ : Dev nD → PrngReg) (hg : ∀ c r, target m c r < 100000) :
    θ_run defs (onTc (τ := τ) (main (F := Ideal))) ⟨m, fun _ => 0, ρ⟩ fun r => ∀ c : Dev nD,
      r.2.mem ((c.tc : Thread nD τ).loc main_v2) = (fun _ => meanReciprocalRank (queries m c) (keyRows m c) (fun x => ⟨target m c x, hg c x⟩))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans (funext fun i => ?_), (h c).2⟩) (run_result m ρ)
  refine Eq.trans ?_ (resultAt_apply m c (hg c))
  have hi : ∀ (v : FVec Ideal S1x1 .f32), (shapeCast S_ v shapeCasts_S1x1_S_ : FVec Ideal S_ .f32) i = v (ix2 (0 : Fin 1) (0 : Fin 1)) := by
    intro v
    refine congrArg v (funext fun a => ?_)
    match a with
    | ⟨0, _⟩ => exact Subsingleton.elim (α := Fin 1) _ _
    | ⟨1, _⟩ => exact Subsingleton.elim (α := Fin 1) _ _
  exact hi _

end Cert.KernelIdeal.Value

end
-- ==== Proof.ReferenceSort.lean ====
/- The reference's two argsorts, read at a place: the second one's word at row `r`, place `j` is the number of columns that
   come before column `j` in row `r`. -/
module

public import proofs.«01_k».proof.Proof.Gen.ReferenceIdeal.Run
public import proofs.«01_k».proof.Proof.Rank
public import Idealize.ShloMosaic.Lib.Pointwise
public import Idealize.ShloMosaic.Lib.WordCmp

@[expose] public section

noncomputable section

namespace Cert.ReferenceIdeal.Ranks

open Cert.ReferenceIdeal Cert.ReferenceIdeal.Gen
open Idealize.ShloMosaic Idealize.ShloMosaic.TcCoe Idealize.SL.Sem
open Cert.Rank Idealize.ShloMosaic.WordCmp

/-- The second result of a sort of two arrays along their columns, at row `r`, place `j`. -/
theorem sort2_columns {R N : ℕ} {α β : Type} (cmp : α × β → α × β → BitVec 1) (x : Shape.Idx ⟨2, ![R, N]⟩ → α) (y : Shape.Idx ⟨2, ![R, N]⟩ → β)
    (r : Fin R) (j : Fin N) :
    (Host.sort2 ⟨2, ![R, N]⟩ 1 cmp x y).2 (ix2 r j)
      = y (ix2 r (sortedFrom (fun a b => cmp (x (ix2 r a), y (ix2 r a)) (x (ix2 r b), y (ix2 r b)) == 1#1) j)) := by
  have hal : ∀ k : Fin N, Shape.Idx.along (s := ⟨2, ![R, N]⟩) (ix2 r j) (1 : Fin 2) k = ix2 r k := by
    intro k; funext a
    match a with
    | ⟨0, _⟩ => rfl
    | ⟨1, _⟩ => rfl
  unfold Host.sort2
  rw [dif_pos (show 1 < 2 by decide)]
  have hs : (fun a b : Fin N => cmp (x (Shape.Idx.along (s := ⟨2, ![R, N]⟩) (ix2 r j) (1 : Fin 2) a), y (Shape.Idx.along (s := ⟨2, ![R, N]⟩) (ix2 r j) (1 : Fin 2) a))
      (x (Shape.Idx.along (s := ⟨2, ![R, N]⟩) (ix2 r j) (1 : Fin 2) b), y (Shape.Idx.along (s := ⟨2, ![R, N]⟩) (ix2 r j) (1 : Fin 2) b)) == 1#1)
      = fun a b => cmp (x (ix2 r a), y (ix2 r a)) (x (ix2 r b), y (ix2 r b)) == 1#1 := by
    funext a b; rw [hal, hal]
  exact congrArg y ((hal _).trans (congrArg (fun B : Fin N → Fin N → Bool => (ix2 r (sortedFrom B j) : Shape.Idx ⟨2, ![R, N]⟩)) hs))

/-- The comparator of the first argsort: its canonical zero and its test for a NaN change no extended real, so it is the order. -/
theorem comparator_f32 (l r : Ideal .f32 × BitVec 32) :
    (comparator_f32_i32_d1 (F := Ideal) l r == 1#1) = decide ((l.1 : EReal) < r.1) := by
  have h0 : (FloatOps.ofBits (F := Ideal) .f32 0x00000000#32 : EReal) = 0 := by pointwise []
  have hz : ∀ x : Ideal .f32, Scalar.select (FloatOps.cmpf .une x x) (FloatOps.ofBits .f32 0x7FC00000#32)
      (Scalar.select (FloatOps.cmpf .oeq x (FloatOps.ofBits .f32 0x00000000#32)) (FloatOps.ofBits .f32 0x00000000#32) x) = x := by
    intro x
    rw [select_of_eq_zero (by
      show BitVec.ofBool (decide ((x : EReal) ≠ x)) = 0#1
      simp)]
    by_cases hx : (x : EReal) = 0
    · rw [select_of_eq_one (by
        show BitVec.ofBool (decide ((x : EReal) = FloatOps.ofBits (F := Ideal) .f32 0x00000000#32)) = 1#1
        rw [h0, hx]; simp)]
      exact h0.trans hx.symm
    · rw [select_of_eq_zero (by
        show BitVec.ofBool (decide ((x : EReal) = FloatOps.ofBits (F := Ideal) .f32 0x00000000#32)) = 0#1
        rw [h0]; simp [hx])]
  show (FloatOps.cmpfTotal .lt _ _ == 1#1) = _
  rw [hz, hz]
  show (BitVec.ofBool (decide ((l.1 : EReal) < r.1)) == 1#1) = _
  rcases decide ((l.1 : EReal) < r.1) <;> rfl

/-- The comparator of the second argsort, on numbers below half the word's range. -/
theorem comparator_i32 (a b : ℕ) (ha : a < 2 ^ 31) (hb : b < 2 ^ 31) (l r : BitVec 32) :
    (comparator_i32_i32_d1 (BitVec.ofNat 32 a, l) (BitVec.ofNat 32 b, r) == 1#1) = decide (a < b) := by
  show (IntOp.cmpi .slt (BitVec.ofNat 32 a) (BitVec.ofNat 32 b) == 1#1) = _
  have h := cmpi_slt_ofNat_eq_one_iff (w := 32) ha hb
  by_cases hc : a < b
  · rw [h.mpr hc]; simp [hc]
  · simp only [hc, decide_false, beq_eq_false_iff_ne, ne_eq]
    exact fun e => hc (h.mp e)

/-- The first argsort at row `r`, place `j`: the column the stable sort by key puts there. -/
theorem argsort_f32 (x : FVec Ideal S1024x100000 .f32) (r : Fin 1024) (j : Fin 100000) :
    (Host.sort2 S1024x100000 1 comparator_f32_i32_d1 x (iotaInDim S1024x100000 32 1)).2 (ix2 r j)
      = BitVec.ofNat 32 (sortedFrom (fun a b => decide ((x (ix2 r a) : EReal) < x (ix2 r b))) j).val := by
  refine (sort2_columns _ _ _ r j).trans ?_
  simp only [comparator_f32]
  rfl

/-- The two argsorts at row `r`, place `j`: how many columns come before column `j` of row `r`. -/
theorem argsort_argsort (x : FVec Ideal S1024x100000 .f32) (r : Fin 1024) (j : Fin 100000) :
    (Host.sort2 S1024x100000 1 comparator_i32_i32_d1
        ((Host.sort2 S1024x100000 1 comparator_f32_i32_d1 x (iotaInDim S1024x100000 32 1)).2) (iotaInDim S1024x100000 32 1)).2 (ix2 r j)
      = BitVec.ofNat 32 (rank (fun a => (x (ix2 r a) : EReal)) j) := by
  refine (sort2_columns _ _ _ r j).trans ?_
  have hlt : ∀ a : Fin 100000, a.val < 2 ^ 31 := fun a => lt_trans a.isLt (by norm_num)
  simp only [argsort_f32, comparator_i32 _ _ (hlt _) (hlt _), Fin.val_fin_lt]
  refine Eq.trans ?_ (congrArg (BitVec.ofNat 32) (sortedFrom_sortedFrom (fun a => (x (ix2 r a) : EReal)) j))
  rfl

end Cert.ReferenceIdeal.Ranks

end
-- ==== Proof.ReferenceValue.lean ====
/- What the reference computes, in closed form. -/
module

public import proofs.«01_k».proof.Proof.ReferenceSort

@[expose] public section

noncomputable section

namespace Cert.ReferenceIdeal.Ranks

open Cert.ReferenceIdeal Cert.ReferenceIdeal.Gen
open Idealize.ShloMosaic Idealize.ShloMosaic.TcCoe Idealize.SL.Sem
open Cert.Rank Idealize.ShloMosaic.WordCmp

/-- The gather at row `r`: the word of that row in the column its start index names, read signed and kept inside the row. -/
theorem gather_apply (x : IVec S1024x100000 32) (idx : IVec S1024x1x1 32) (r : Fin 1024) :
    Host.gather gather_S1024x100000_S1024x1x1_S1024x1_n_1_0_0_1_2_11 x idx (ix2 r (0 : Fin 1))
      = x (ix2 r ⟨min (idx (ix3 r (0 : Fin 1) (0 : Fin 1))).toInt.toNat 99999, by omega⟩) := by
  refine congrArg x (funext fun a => Fin.ext ?_)
  have hs : gather_S1024x100000_S1024x1x1_S1024x1_n_1_0_0_1_2_11.siIdx (ix2 r (0 : Fin 1))
      ⟨List.idxOf (1 : Fin 2) gather_S1024x100000_S1024x1x1_S1024x1_n_1_0_0_1_2_11.startIndexMap,
        List.idxOf_lt_length_iff.2 (List.mem_singleton.mpr rfl)⟩ = ix3 r (0 : Fin 1) (0 : Fin 1) := by
    funext b
    match b with
    | ⟨0, _⟩ => rfl
    | ⟨1, _⟩ => rfl
    | ⟨2, _⟩ => rfl
  match a with
  | ⟨0, _⟩ =>
    show gather_S1024x100000_S1024x1x1_S1024x1_n_1_0_0_1_2_11.start (ix2 r (0 : Fin 1)) idx (0 : Fin 2)
      + gather_S1024x100000_S1024x1x1_S1024x1_n_1_0_0_1_2_11.batchCoord (ix2 r (0 : Fin 1)) (0 : Fin 2)
      + gather_S1024x100000_S1024x1x1_S1024x1_n_1_0_0_1_2_11.offCoord (ix2 r (0 : Fin 1)) (0 : Fin 2) = r.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S1024x100000_S1024x1x1_S1024x1_n_1_0_0_1_2_11.operandBatchingDims from List.mem_singleton.mpr rfl), Nat.zero_add, Nat.add_zero]
    rfl
  | ⟨1, _⟩ =>
    show gather_S1024x100000_S1024x1x1_S1024x1_n_1_0_0_1_2_11.start (ix2 r (0 : Fin 1)) idx (1 : Fin 2)
      + gather_S1024x100000_S1024x1x1_S1024x1_n_1_0_0_1_2_11.batchCoord (ix2 r (0 : Fin 1)) (1 : Fin 2)
      + gather_S1024x100000_S1024x1x1_S1024x1_n_1_0_0_1_2_11.offCoord (ix2 r (0 : Fin 1)) (1 : Fin 2) = _
    rw [GatherDims.batchCoord_eq_zero _ _ _ (fun h => by
        have : (1 : Fin 2) = 0 := List.mem_singleton.mp h
        exact absurd this (by decide)),
      GatherDims.offCoord_eq_zero _ _ _ (fun h => ((GatherDims.mem_sKept _ _).mp h).1 (List.mem_singleton.mpr rfl))]
    unfold GatherDims.start
    rw [dif_pos (show (1 : Fin 2) ∈ gather_S1024x100000_S1024x1x1_S1024x1_n_1_0_0_1_2_11.startIndexMap from List.mem_singleton.mpr rfl), hs]
    rfl

/-- The index array the gather is given: row `r`'s target column, counted from the end if negative. -/
def targets (G : IVec S1024x1 32) : IVec S1024x1x1 32 :=
  shapeCast _ (select (cmpi .slt G (broadcastInDim S1024x1 ![] bcast_S_S1024x1 (constantI S_ 32 0#32)))
    (addi G (broadcastInDim S1024x1 ![] bcast_S_S1024x1 (constantI S_ 32 100000#32))) G) shapeCasts_S1024x1_S1024x1x1

/-- A target in range is its own start index. -/
theorem targets_apply (G : IVec S1024x1 32) (r : Fin 1024) (h : (G (ix2 r (0 : Fin 1))).toNat < 100000) :
    targets G (ix3 r (0 : Fin 1) (0 : Fin 1)) = G (ix2 r (0 : Fin 1)) := by
  pointwise [targets]
  rw [select_of_eq_zero]
  rw [cmpi_slt_zero, ofBool_decide_eq_ite, if_neg (by omega)]

/-- Which start indices are columns of the array. -/
def inside (T : IVec S1024x1x1 32) : IVec S1024x1 1 :=
  Host.reduce IntOp.andi (andi (cmpi .sge T (broadcastInDim S1024x1x1 ![] bcast_S_S1024x1x1 (constantI S_ 32 0#32)))
      (cmpi .sle T (broadcastInDim S1024x1x1 ![0, 1, 2] bcast_S1x1x1_S1024x1x1_0_1_2 (broadcastInDim S1x1x1 ![2] bcast_S1_S1x1x1_2 (constantI S1 32 99999#32)))))
    (constantI S_ 1 1#1) reducesTo_S1024x1x1_S1024x1_d2 h_S_

theorem inside_apply (T : IVec S1024x1x1 32) (r : Fin 1024) (h : (T (ix3 r (0 : Fin 1) (0 : Fin 1))).toNat < 100000) :
    inside T (ix2 r (0 : Fin 1)) = 1#1 := by
  pointwise [inside]
  rw [Finset.univ_unique, Finset.fold_singleton]
  have e : (default : Fin 1) = 0 := rfl
  rw [e, cmpi_sge_zero, cmpi_sle_eq, ofBool_decide_eq_ite, ofBool_decide_eq_ite, if_pos (by omega),
    if_pos (by rw [toInt_eq_toNat_of_lt_half (by omega)]; show _ ≤ (99999 : Int); omega)]
  rfl

/-- The row's word in the column of its target, or the least word where the target is no column. -/
def picked (x : IVec S1024x100000 32) (T : IVec S1024x1x1 32) : IVec S1024x1 32 :=
  select (inside T) (Host.gather gather_S1024x100000_S1024x1x1_S1024x1_n_1_0_0_1_2_11 x T)
    (broadcastInDim S1024x1 ![] bcast_S_S1024x1 (constantI S_ 32 2147483648#32))

theorem picked_apply (x : IVec S1024x100000 32) (T : IVec S1024x1x1 32) (r : Fin 1024) (h : (T (ix3 r (0 : Fin 1) (0 : Fin 1))).toNat < 100000) :
    picked x T (ix2 r (0 : Fin 1)) = x (ix2 r ⟨(T (ix3 r (0 : Fin 1) (0 : Fin 1))).toNat, h⟩) := by
  show Scalar.select (inside T (ix2 r (0 : Fin 1))) (Host.gather _ x T (ix2 r (0 : Fin 1))) _ = _
  rw [select_of_eq_one (inside_apply T r h), gather_apply]
  refine congrArg (fun a : Fin 100000 => x (ix2 r a)) (Fin.ext ?_)
  show min (T (ix3 r (0 : Fin 1) (0 : Fin 1))).toInt.toNat 99999 = _
  rw [toInt_eq_toNat_of_lt_half (by omega)]
  show min (T (ix3 r (0 : Fin 1) (0 : Fin 1))).toNat 99999 = (T (ix3 r (0 : Fin 1) (0 : Fin 1))).toNat
  omega

/-- The negated scores of every row against every column. -/
def keys (X : FVec Ideal S1024x128 .f32) (Y : FVec Ideal S100000x128 .f32) : FVec Ideal S1024x100000 .f32 :=
  Host.negf (Host.dotGeneral dot_S1024x128_S128x100000_S1024x100000_1_0_0_1_n_n none X (transpose S128x100000 [1, 0] Y transposes_S100000x128_S128x100000_1_0))

theorem keys_apply (X : FVec Ideal S1024x128 .f32) (Y : FVec Ideal S100000x128 .f32) (r : Fin 1024) (j : Fin 100000) :
    (keys X Y (ix2 r j) : EReal) = -∑ k : Fin 128, X (ix2 r k) * Y (ix2 j k) := by
  pointwise [keys]

/-- The mean of the reciprocals of the words plus one. -/
def meanReciprocal (w : IVec S1024x1 32) : FVec Ideal S_ .f32 :=
  Host.divf (Host.reduceAdd (Host.divf (broadcastInDim S1024 ![] bcast_S_S1024 (constant S_ .f32 0x3F800000#32)) (sitofp .f32 (addi (Host.reduce IntOp.minsi w
    (constantI S_ 32 2147483647#32) reducesTo_S1024x1_S1024_d1 h_S_) (broadcastInDim S1024 ![] bcast_S_S1024 (constantI S_ 32 1#32))))) (constant S_ .f32 0x00000000#32) reducesTo_S1024_S_d0 h_S_) (constant S_ .f32 0x44800000#32)

theorem meanReciprocal_apply (w : IVec S1024x1 32) (i : S_.Idx) :
    (meanReciprocal w i : EReal)
      = Ideal.div (∑ r : Fin 1024, Ideal.div 1 (FloatOps.sitofp (F := Ideal) .f32 (IntOp.addi (w (ix2 r (0 : Fin 1))) 1#32)))
          (Ideal.ofBits .f32 0x44800000#32) := by
  pointwise [meanReciprocal]
  have hmin : ∀ v : BitVec 32, IntOp.minsi v 2147483647#32 = v := by
    intro v
    unfold IntOp.minsi
    split
    · rfl
    · rename_i hn
      have := BitVec.toInt_lt (x := v)
      simp only [BitVec.slt, decide_eq_true_eq, not_lt] at hn
      apply BitVec.eq_of_toInt_eq
      have e : (2147483647#32).toInt = 2147483647 := by decide
      omega
  refine congrArg (fun s : EReal => Ideal.div s _) (Finset.sum_congr rfl fun r _ => ?_)
  rw [Finset.univ_unique, Finset.fold_singleton, hmin]
  rfl

/-- What the reference computes where every target is a column: the mean, over the rows, of one over the target's rank plus one. -/
theorem reference_apply (X : FVec Ideal S1024x128 .f32) (Y : FVec Ideal S100000x128 .f32) (G : IVec S1024x1 32)
    (h : ∀ r : Fin 1024, (G (ix2 r (0 : Fin 1))).toNat < 100000) (i : S_.Idx) :
    (meanReciprocal (picked ((Host.sort2 S1024x100000 1 comparator_i32_i32_d1
        ((Host.sort2 S1024x100000 1 comparator_f32_i32_d1 (keys X Y) (iotaInDim S1024x100000 32 1)).2) (iotaInDim S1024x100000 32 1)).2) (targets G)) i : EReal)
      = meanReciprocalRank X Y (fun r => ⟨(G (ix2 r (0 : Fin 1))).toNat, h r⟩) := by
  rw [meanReciprocal_apply]
  refine congrArg (fun s : EReal => Ideal.div s _) (Finset.sum_congr rfl fun r _ => ?_)
  rw [picked_apply _ _ r (by rw [targets_apply G r (h r)]; exact h r), argsort_argsort]
  refine congrArg (fun n : ℕ => Ideal.div 1 (FloatOps.sitofp (F := Ideal) .f32 (IntOp.addi (BitVec.ofNat 32 n) 1#32))) ?_
  simp only [keys_apply, targets_apply G r (h r)]
  rfl

/-- The reference ends, from any memory whose targets are columns, with that mean in its result and its arguments unchanged. -/
theorem run_value (m : (ℓ : Loc nD τ sig) → Buf (Elt Ideal) ℓ) (ρ : Dev nD → PrngReg)
    (h : ∀ (c : Dev nD) (r : Fin 1024), ((m ((c.tc : Thread nD τ).loc main_arg2) : IVec S1024x1 32) (ix2 r (0 : Fin 1))).toNat < 100000) :
    θ_run defs (onTc (τ := τ) (main (F := Ideal))) ⟨m, fun _ => 0, ρ⟩ fun r => ∀ c : Dev nD,
      r.2.mem ((c.tc : Thread nD τ).loc main_v13)
          = (fun _ => meanReciprocalRank (m ((c.tc : Thread nD τ).loc main_arg0)) (m ((c.tc : Thread nD τ).loc main_arg1)) (fun x => ⟨_, h c x⟩))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ hr c => ⟨(hr c).1.trans (funext fun i => reference_apply _ _ _ (h c) i), (hr c).2⟩)
    (Cert.ReferenceIdeal.Value.run m ρ)

end Cert.ReferenceIdeal.Ranks

end
-- ==== Proof.Precondition.lean ====
/- What the precondition says: every target is a column of the array. -/
module

public import proofs.«01_k».proof.Proof.Gen.Pre_in_range
public import Idealize.ShloMosaic.Lib.ReduceAll
public import Idealize.ShloMosaic.Lib.WordCmp
public import Idealize.ShloMosaic.Lib.Pointwise

@[expose] public section

namespace Cert.Pre_in_range.Ranges

open Cert.Pre_in_range Cert.Pre_in_range.Gen
open Idealize.ShloMosaic Idealize.ShloMosaic.WordCmp

/-- Where the precondition holds, every target, read as a natural number, is below the number of keys. -/
theorem below (X : FVec Ideal S1024x128 .f32) (Y : FVec Ideal S100000x128 .f32) (G : IVec S1024x1 32)
    (h : Cert.Pre_in_range.fn (F := Ideal) X Y G = fun _ => 1#1) (r : Fin 1024) : (G (ix2 r (0 : Fin 1))).toNat < 100000 := by
  haveI : Subsingleton S_.Idx := ⟨fun a b => funext fun i => i.elim0⟩
  have h0 := congrFun h (Shape.Idx.first h_S_)
  unfold Cert.Pre_in_range.fn at h0
  have e := Host.reduce_andi_all _ _ _ _ _ h0 (ix2 r (0 : Fin 1))
  obtain ⟨h1, h2⟩ := IntOp.andi_eq_one.1 e
  have h1 : IntOp.cmpi .sge (G (ix2 r (0 : Fin 1))) 0#32 = 1#1 := h1
  have h2 : IntOp.cmpi .slt (G (ix2 r (0 : Fin 1))) 100000#32 = 1#1 := h2
  rw [cmpi_sge_zero, ofBool_decide_eq_ite] at h1
  have h3 : (G (ix2 r (0 : Fin 1))).toNat < 2 ^ 31 := by
    by_contra hn
    rw [if_neg (by simpa using hn)] at h1
    exact absurd h1 (by decide)
  have e2 : (100000#32).toInt = 100000 := by decide
  rw [cmpi_slt_eq, ofBool_decide_eq_ite, e2, toInt_eq_toNat_of_lt_half (by simpa using h3)] at h2
  by_contra hn
  rw [if_neg (by omega)] at h2
  exact absurd h2 (by decide)

end Cert.Pre_in_range.Ranges
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_range
public import proofs.«01_k».proof.Proof.KernelFrame
public import proofs.«01_k».proof.Proof.KernelIdealFrame
public import proofs.«01_k».proof.Proof.KernelValue
public import proofs.«01_k».proof.Proof.ReferenceValue
public import proofs.«01_k».proof.Proof.Precondition
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference leaves its arguments unchanged, and has no semaphore counter that could be other than zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2, sem_eq_zero_of_no_sems (by decide) r.2⟩) (Cert.ReferenceIdeal.Value.run m g)

/-- The kernel and the reference, from the same arguments with every target a column, end with the same result. -/
theorem same_result : Cert.algebraic_KernelIdeal_ReferenceIdeal_pre_in_range := by
  intro m g m' g' hpre hagree
  have hg : ∀ c r, Cert.KernelIdeal.Value.target m c r < 100000 := fun c r => Cert.Pre_in_range.Ranges.below _ _ _ (hpre c) r
  refine ⟨_, Cert.KernelIdeal.Value.run_value m g hg, ?_⟩
  refine (θ_run _ _ _).mono (fun r h c => ⟨(h c).1.trans ?_, (h c).2⟩)
    (Cert.ReferenceIdeal.Ranks.run_value m' g' fun c r => by rw [(hagree c).2.2]; exact hg c r)
  funext i
  simp only [(hagree c).1, (hagree c).2.1, (hagree c).2.2]

theorem claim : Cert.Claim := ⟨Cert.Kernel.Gen.facts, Cert.KernelIdeal.Gen.facts, Cert.ReferenceIdeal.Gen.facts, Cert.Pre_in_range.Gen.facts,
  fun m g _ => Cert.Kernel.Body.frame_quiescent m g,
  fun m g _ => Cert.KernelIdeal.Body.frame_quiescent m g,
  fun m g _ => Cert.KernelIdeal.Body.frame_quiescent m g,
  fun m g _ => frame_reference m g,
  fun m g _ => frame_reference m g,
  trivial,
  same_result⟩

end Cert.Proof

end
